-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1x8192 : Shape := ⟨3, ![256, 1, 8192]⟩
abbrev S4096x45056 : Shape := ⟨2, ![4096, 45056]⟩
abbrev S64x45056 : Shape := ⟨2, ![64, 45056]⟩
abbrev S256x8192 : Shape := ⟨2, ![256, 8192]⟩
abbrev S256x45056 : Shape := ⟨2, ![256, 45056]⟩
abbrev S4096x512 : Shape := ⟨2, ![4096, 512]⟩
abbrev S64x512 : Shape := ⟨2, ![64, 512]⟩
abbrev S256x512 : Shape := ⟨2, ![256, 512]⟩
abbrev S128x128 : Shape := ⟨2, ![128, 128]⟩
abbrev S256x128 : Shape := ⟨2, ![256, 128]⟩
abbrev S128x512 : Shape := ⟨2, ![128, 512]⟩
abbrev S1x512 : Shape := ⟨2, ![1, 512]⟩
abbrev S32x512 : Shape := ⟨2, ![32, 512]⟩
abbrev S256x256 : Shape := ⟨2, ![256, 256]⟩

abbrev nBuf : Space → Nat
  | .hbm => 5
  | .vmem => 8
  | .smem => 0
  | _ => 0

abbrev bufTy : (tb : Table) → Fin (tcTables nBuf tb) → BufTy
  | .hbm, ⟨0, _⟩ => ⟨S256x1x8192, .bf16⟩
  | .hbm, ⟨1, _⟩ => ⟨S4096x45056, .i8⟩
  | .hbm, ⟨2, _⟩ => ⟨S64x45056, .bf16⟩
  | .hbm, ⟨3, _⟩ => ⟨S256x8192, .bf16⟩
  | .hbm, ⟨4, _⟩ => ⟨S256x45056, .bf16⟩
  | .local _ .vmem, ⟨0, _⟩ => ⟨S256x8192, .bf16⟩
  | .local _ .vmem, ⟨1, _⟩ => ⟨S4096x512, .i8⟩
  | .local _ .vmem, ⟨2, _⟩ => ⟨S4096x512, .i8⟩
  | .local _ .vmem, ⟨3, _⟩ => ⟨S64x512, .bf16⟩
  | .local _ .vmem, ⟨4, _⟩ => ⟨S64x512, .bf16⟩
  | .local _ .vmem, ⟨5, _⟩ => ⟨S256x512, .bf16⟩
  | .local _ .vmem, ⟨6, _⟩ => ⟨S256x512, .bf16⟩
  | .local _ .vmem, ⟨7, _⟩ => ⟨S256x8192, .bf16⟩
  | _, _ => ⟨S256x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![88], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S256x1x8192 : Shape := ⟨3, ![256, 1, 8192]⟩
abbrev S4096x45056 : Shape := ⟨2, ![4096, 45056]⟩
abbrev S64x45056 : Shape := ⟨2, ![64, 45056]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S256x1x64x128 : Shape := ⟨4, ![256, 1, 64, 128]⟩
abbrev S32x45056 : Shape := ⟨2, ![32, 45056]⟩
abbrev S32x128x45056 : Shape := ⟨3, ![32, 128, 45056]⟩
abbrev S32x1x45056 : Shape := ⟨3, ![32, 1, 45056]⟩
abbrev S256x1x4096 : Shape := ⟨3, ![256, 1, 4096]⟩
abbrev S256x1x45056 : Shape := ⟨3, ![256, 1, 45056]⟩
abbrev S256x45056 : Shape := ⟨2, ![256, 45056]⟩

abbrev nBuf : Space → Nat
  | .hbm => 68
  | .vmem => 0
  | .smem => 0
  | _ => 0

abbrev bufTy : (tb : Table) → Fin (tcTables nBuf tb) → BufTy
  | .hbm, ⟨0, _⟩ => ⟨S256x1x8192, .bf16⟩
  | .hbm, ⟨1, _⟩ => ⟨S4096x45056, .i8⟩
  | .hbm, ⟨2, _⟩ => ⟨S64x45056, .bf16⟩
  | .hbm, ⟨3, _⟩ => ⟨S128, .i32⟩
  | .hbm, ⟨4, _⟩ => ⟨S128x1, .i32⟩
  | .hbm, ⟨5, _⟩ => ⟨S1x128, .i32⟩
  | .hbm, ⟨6, _⟩ => ⟨S128x128, .i32⟩
  | .hbm, ⟨7, _⟩ => ⟨S128x128, .i32⟩
  | .hbm, ⟨8, _⟩ => ⟨S128x128, .i32⟩
  | .hbm, ⟨9, _⟩ => ⟨S128x128, .i32⟩
  | .hbm, ⟨10, _⟩ => ⟨S_, .i32⟩
  | .hbm, ⟨11, _⟩ => ⟨S128x128, .i32⟩
  | .hbm, ⟨12, _⟩ => ⟨S128x128, .i32⟩
  | .hbm, ⟨13, _⟩ => ⟨S_, .i32⟩
  | .hbm, ⟨14, _⟩ => ⟨S128x128, .i32⟩
  | .hbm, ⟨15, _⟩ => ⟨S128x128, .i32⟩
  | .hbm, ⟨16, _⟩ => ⟨S_, .i32⟩
  | .hbm, ⟨17, _⟩ => ⟨S128x128, .i32⟩
  | .hbm, ⟨18, _⟩ => ⟨S128x128, .i32⟩
  | .hbm, ⟨19, _⟩ => ⟨S128x128, .f32⟩
  | .hbm, ⟨20, _⟩ => ⟨S_, .f32⟩
  | .hbm, ⟨21, _⟩ => ⟨S128x128, .f32⟩
  | .hbm, ⟨22, _⟩ => ⟨S128x128, .f32⟩
  | .hbm, ⟨23, _⟩ => ⟨S256x1x8192, .f32⟩
  | .hbm, ⟨24, _⟩ => ⟨S256x1x64x128, .f32⟩
  | .hbm, ⟨25, _⟩ => ⟨S256x1x64x128, .f32⟩
  | .hbm, ⟨26, _⟩ => ⟨S256x1x8192, .f32⟩
  | .hbm, ⟨27, _⟩ => ⟨S256x1x8192, .bf16⟩
  | .hbm, ⟨28, _⟩ => ⟨S4096x45056, .i32⟩
  | .hbm, ⟨29, _⟩ => ⟨S_, .i32⟩
  | .hbm, ⟨30, _⟩ => ⟨S4096x45056, .i32⟩
  | .hbm, ⟨31, _⟩ => ⟨S4096x45056, .i32⟩
  | .hbm, ⟨32, _⟩ => ⟨S32x45056, .bf16⟩
  | .hbm, ⟨33, _⟩ => ⟨S_, .i32⟩
  | .hbm, ⟨34, _⟩ => ⟨S4096x45056, .i32⟩
  | .hbm, ⟨35, _⟩ => ⟨S4096x45056, .i32⟩
  | .hbm, ⟨36, _⟩ => ⟨S_, .i32⟩
  | .hbm, ⟨37, _⟩ => ⟨S4096x45056, .i32⟩
  | .hbm, ⟨38, _⟩ => ⟨S4096x45056, .i32⟩
  | .hbm, ⟨39, _⟩ => ⟨S4096x45056, .bf16⟩
  | .hbm, ⟨40, _⟩ => ⟨S32x128x45056, .bf16⟩
  | .hbm, ⟨41, _⟩ => ⟨S32x1x45056, .bf16⟩
  | .hbm, ⟨42, _⟩ => ⟨S32x128x45056, .bf16⟩
  | .hbm, ⟨43, _⟩ => ⟨S32x128x45056, .bf16⟩
  | .hbm, ⟨44, _⟩ => ⟨S4096x45056, .bf16⟩
  | .hbm, ⟨45, _⟩ => ⟨S_, .i32⟩
  | .hbm, ⟨46, _⟩ => ⟨S4096x45056, .i32⟩
  | .hbm, ⟨47, _⟩ => ⟨S4096x45056, .i32⟩
  | .hbm, ⟨48, _⟩ => ⟨S32x45056, .bf16⟩
  | .hbm, ⟨49, _⟩ => ⟨S_, .i32⟩
  | .hbm, ⟨50, _⟩ => ⟨S4096x45056, .i32⟩
  | .hbm, ⟨51, _⟩ => ⟨S4096x45056, .i32⟩
  | .hbm, ⟨52, _⟩ => ⟨S_, .i32⟩
  | .hbm, ⟨53, _⟩ => ⟨S4096x45056, .i32⟩
  | .hbm, ⟨54, _⟩ => ⟨S4096x45056, .i32⟩
  | .hbm, ⟨55, _⟩ => ⟨S4096x45056, .bf16⟩
  | .hbm, ⟨56, _⟩ => ⟨S32x128x45056, .bf16⟩
  | .hbm, ⟨57, _⟩ => ⟨S32x1x45056, .bf16⟩
  | .hbm, ⟨58, _⟩ => ⟨S32x128x45056, .bf16⟩
  | .hbm, ⟨59, _⟩ => ⟨S32x128x45056, .bf16⟩
  | .hbm, ⟨60, _⟩ => ⟨S4096x45056, .bf16⟩
  | .hbm, ⟨61, _⟩ => ⟨S256x1x4096, .bf16⟩
  | .hbm, ⟨62, _⟩ => ⟨S256x1x45056, .f32⟩
  | .hbm, ⟨63, _⟩ => ⟨S256x1x4096, .bf16⟩
  | .hbm, ⟨64, _⟩ => ⟨S256x1x45056, .f32⟩
  | .hbm, ⟨65, _⟩ => ⟨S256x1x45056, .f32⟩
  | .hbm, ⟨66, _⟩ => ⟨S256x1x45056, .bf16⟩
  | .hbm, ⟨67, _⟩ => ⟨S256x45056, .bf16⟩
  | _, _ => ⟨S256x1x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_3 : Ref sig .tc := ⟨.hbm, 33, rfl⟩
abbrev main_v25 : Ref sig .tc := ⟨.hbm, 34, rfl⟩
abbrev main_v26 : Ref sig .tc := ⟨.hbm, 35, rfl⟩
abbrev main_c_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_5 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c_6 : Ref sig .tc := ⟨.hbm, 49, rfl⟩
abbrev main_v38 : Ref sig .tc := ⟨.hbm, 50, rfl⟩
abbrev main_v39 : Ref sig .tc := ⟨.hbm, 51, rfl⟩
abbrev main_c_7 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩

abbrev nD : Nat := 1
abbrev τ : Topo := Topo.v7x

variable {F : FTy → Type} [FloatOps F]
-- ==== Proof.Block.lean ====
/- What one grid point of the kernel computes, as a term over the point's blocks: 64 rotated column blocks written to
   the scratch (the first point alone), then 32 products of a slice of the scratch with a dequantized tile, summed. -/
module

public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.KernelIdeal.Block

open Cert.KernelIdeal Cert.KernelIdeal.Gen Idealize.ShloMosaic Idealize.ShloMosaic.TcCoe Idealize.SL.Sem

variable {F : FTy → Type} [FloatOps F]

/-- A 4-bit field of every 16-bit half of the words, as a signed number times the scale row. -/
def field (words : IVec S32x512 32) (scale : Vec F S1x512 .bf16) : FVec F S64x512 .bf16 :=
  mulf (subf (bitcastToFloat .bf16 (bitcast S64x512 16
      (xori (andi words (broadcast S32x512 983055#32)) (broadcast S32x512 1124614920#32)) bitcasts_S32x512_w32_S64x512_w16))
    (broadcast S64x512 (Scalar.ofBits .bf16 0x4308#16))) (broadcastTo S64x512 scale broadcasts_S1x512_S64x512)

/-- The packed bytes, four to a word. -/
def words (packed : Vec F S128x512 .i8) : IVec S32x512 32 := bitcast S32x512 32 packed bitcasts_S128x512_w8_S32x512_w32

/-- The dequantized 256-row tile of 128 packed rows. -/
def tile (packed : Vec F S128x512 .i8) (lo hi : Vec F S1x512 .bf16) : FVec F S256x512 .bf16 :=
  concatenate S256x512 0 [⟨S64x512, field (words packed) lo⟩,
    ⟨S64x512, field (shrsi (words packed) (broadcast S32x512 8#32)) lo⟩,
    ⟨S64x512, field (shrsi (words packed) (broadcast S32x512 4#32)) hi⟩,
    ⟨S64x512, field (shrsi (words packed) (broadcast S32x512 12#32)) hi⟩]
    concatenates_S64x512_S64x512_S64x512_S64x512_S256x512_d0

/-- One product: 256 columns of the rotated activations with one tile. -/
def part (xh : Vec F S256x256 .bf16) (packed : Vec F S128x512 .i8) (lo hi : Vec F S1x512 .bf16) : FVec F S256x512 .f32 :=
  matmul dot_S256x256_S256x512_S256x512_1_0_0_1_n_n none xh (tile packed lo hi) (constant S256x512 .f32 0x00000000#32)

theorem inbW (p : ℕ) (h : p < 32) : ∀ a, (![128 * p, 0] : Fin 2 → ℕ) a + S128x512.size a ≤ S4096x512.size a := by
  intro a; fin_cases a
  · show 128 * p + 128 ≤ 4096; omega
  · show 0 + 512 ≤ 512; omega

theorem inbS (p : ℕ) (h : p < 64) : ∀ a, (![p, 0] : Fin 2 → ℕ) a + S1x512.size a ≤ S64x512.size a := by
  intro a; fin_cases a
  · show p + 1 ≤ 64; omega
  · show 0 + 512 ≤ 512; omega

theorem inbH (p : ℕ) (h : p < 32) : ∀ a, (![0, 256 * p] : Fin 2 → ℕ) a + S256x256.size a ≤ S256x8192.size a := by
  intro a; fin_cases a
  · show 0 + 256 ≤ 256; omega
  · show 256 * p + 256 ≤ 8192; omega

theorem inbX (g : ℕ) (h : g < 64) : ∀ a, (![0, 128 * g] : Fin 2 → ℕ) a + S256x128.size a ≤ S256x8192.size a := by
  intro a; fin_cases a
  · show 0 + 256 ≤ 256; omega
  · show 128 * g + 128 ≤ 8192; omega

/-- The product number `p` over the point's blocks. -/
def partAt (H : Vec F S256x8192 .bf16) (W : Vec F S4096x512 .i8) (S : Vec F S64x512 .bf16) (p : ℕ) (h : p < 32) : FVec F S256x512 .f32 :=
  part (View.ld H (Rect.unit ![0, 256 * p] S256x256.size (inbH p h)))
    (View.ld W (Rect.unit ![128 * p, 0] S128x512.size (inbW p h)))
    (View.ld S (Rect.unit ![p, 0] S1x512.size (inbS p (by omega))))
    (View.ld S (Rect.unit ![p + 32, 0] S1x512.size (inbS (p + 32) (by omega))))

/-- The sum of the products up to number `p`, in order. -/
def accum (H : Vec F S256x8192 .bf16) (W : Vec F S4096x512 .i8) (S : Vec F S64x512 .bf16) : (p : ℕ) → p < 32 → FVec F S256x512 .f32
  | 0, h => partAt H W S 0 h
  | p + 1, h => addf (accum H W S p (by omega)) (partAt H W S (p + 1) h)

/-- What a point stores in the result's block. -/
def blockOut (H : Vec F S256x8192 .bf16) (W : Vec F S4096x512 .i8) (S : Vec F S64x512 .bf16) : FVec F S256x512 .bf16 :=
  truncf .bf16 (accum H W S 31 (by omega)) bitsLt_bf16_f32

/-- At a point after the first, the block is `blockOut` of what the scratch held. -/
theorem out_B (c : Dev nD) (i : grid0.Coords) (arg1 : Memref sig .tc .vmem S256x8192 .bf16) (harg1 : arg1.IsWhole) (arg2 : Memref sig .tc .vmem S4096x512 .i8) (harg2 : arg2.IsWhole) (arg3 : Memref sig .tc .vmem S64x512 .bf16) (harg3 : arg3.IsWhole) (arg4 : Memref sig .tc .vmem S256x512 .bf16) (harg4 : arg4.IsWhole) (arg5 : Memref sig .tc .vmem S256x8192 .bf16) (harg5 : arg5.IsWhole) (hc0 : ¬cond0_0 i)
    (x0 : Vec F S256x8192 .bf16) (x1 : Vec F S4096x512 .i8) (x2 : Vec F S64x512 .bf16) (xs0 : Vec F S256x8192 .bf16) :
    out0_B_3 c i arg1 harg1 arg2 harg2 arg3 harg3 arg4 harg4 arg5 harg5 hc0 x0 x1 x2 xs0 = blockOut xs0 x1 x2 := by
  frame_out
  unfold_payloads
  unfold blockOut
  simp only [accum, partAt]
  rfl

end Cert.KernelIdeal.Block

end
-- ==== Proof.BlockA.lean ====
/- The first grid point: it fills the scratch with the rotated activations and computes its block from them. -/
module

public import proofs.«01_k».proof.Proof.Block
public import Idealize.ShloMosaic.Lib.Pointwise

@[expose] public section

set_option maxRecDepth 16384

noncomputable section

namespace Cert.KernelIdeal.Block

open Cert.KernelIdeal Cert.KernelIdeal.Gen Idealize.ShloMosaic Idealize.ShloMosaic.TcCoe Idealize.SL.Sem

variable {F : FTy → Type} [FloatOps F]

/-- One rotated group of 128 columns. -/
def rot (x : Vec F S256x128 .bf16) : FVec F S256x128 .bf16 :=
  shapeCast S256x128 (truncf .bf16 (mulf (matmul dot_S256x128_S128x128_S256x128_1_0_0_1_n_n none
    (shapeCast S256x128 x shapeCasts_S256x128_S256x128) (k0_pay2 (F := F)) (constant S256x128 .f32 0x00000000#32))
    (broadcast S256x128 (Scalar.ofBits .f32 0x3DB504F3#32))) bitsLt_bf16_f32) shapeCasts_S256x128_S256x128

/-- The group whose rotation stands in the block `d` of 128 scratch columns: lower and upper halves alternate. -/
abbrev grp (d : ℕ) : ℕ := d / 2 + 32 * (d % 2)

theorem grp_lt {k : ℕ} (h : k < 8192) : grp (k / 128) < 64 := by unfold grp; omega

/-- The whole scratch after the first point. -/
def xhat (X : Vec F S256x8192 .bf16) : Vec F S256x8192 .bf16 := fun y =>
  rot (View.ld X (Rect.unit ![0, 128 * grp ((y 1).val / 128)] S256x128.size (inbX _ (grp_lt (y 1).isLt))))
    (ix2 (y 0) ⟨(y 1).val % 128, Nat.mod_lt _ (by decide)⟩)

/-- Each store of the first point is a block of `xhat`: the place `x` of the rotation of the columns from `o` on stands
    at the place `y` of the scratch. -/
theorem piece_eq (X : Vec F S256x8192 .bf16) (o : ℕ) (inb : ∀ a, (![0, o] : Fin 2 → ℕ) a + S256x128.size a ≤ S256x8192.size a)
    (x : S256x128.Idx) (y : S256x8192.Idx) (h0 : (y 0).val = (x 0).val)
    (h1 : o = 128 * grp ((y 1).val / 128)) (h2 : (y 1).val % 128 = (x 1).val) :
    rot (View.ld X (Rect.unit ![0, o] S256x128.size inb)) x = xhat X y := by
  subst h1
  have e : x = ix2 (y 0) ⟨(y 1).val % 128, Nat.mod_lt _ (by decide)⟩ := by
    funext a; apply Fin.ext
    match a with
    | ⟨0, _⟩ => exact h0.symm
    | ⟨1, _⟩ => exact h2.symm
  rw [e]; rfl

/-- A load of part of what stores over junk left reads their union. -/
theorem readCov_ld {sig : RefSig} {κ : Kind} {sp : Space} {s : Shape} {e : EltTy} {Val : EltTy → Type} [∀ e, Nonempty (Val e)]
    (v : View sig κ sp s e) (L : List (View.Piece Val s e)) (r : Rect s) :
    v.readCov L r.toLoadRect = View.ld (View.canon L) r := View.readCov_eq_canon' v L _

/-- After the first point the scratch holds `xhat`. -/
theorem sout_A (c : Dev nD) (i : grid0.Coords) (arg1 : Memref sig .tc .vmem S256x8192 .bf16) (harg1 : arg1.IsWhole) (arg2 : Memref sig .tc .vmem S4096x512 .i8) (harg2 : arg2.IsWhole) (arg3 : Memref sig .tc .vmem S64x512 .bf16) (harg3 : arg3.IsWhole) (arg4 : Memref sig .tc .vmem S256x512 .bf16) (harg4 : arg4.IsWhole) (arg5 : Memref sig .tc .vmem S256x8192 .bf16) (harg5 : arg5.IsWhole) (hc0 : cond0_0 i)
    (x0 : Vec F S256x8192 .bf16) (x1 : Vec F S4096x512 .i8) (x2 : Vec F S64x512 .bf16) :
    sout0_A_0 c i arg1 harg1 arg2 harg2 arg3 harg3 arg4 harg4 arg5 harg5 hc0 x0 x1 x2 = xhat x0 := by
  funext y
  frame_out
  canon_tiles x h
  all_goals exact piece_eq x0 _ _ x y h0 (by unfold grp; omega) (by omega)

/-- At the first point, the block is `blockOut` of what it left in the scratch. -/
theorem out_A (c : Dev nD) (i : grid0.Coords) (arg1 : Memref sig .tc .vmem S256x8192 .bf16) (harg1 : arg1.IsWhole) (arg2 : Memref sig .tc .vmem S4096x512 .i8) (harg2 : arg2.IsWhole) (arg3 : Memref sig .tc .vmem S64x512 .bf16) (harg3 : arg3.IsWhole) (arg4 : Memref sig .tc .vmem S256x512 .bf16) (harg4 : arg4.IsWhole) (arg5 : Memref sig .tc .vmem S256x8192 .bf16) (harg5 : arg5.IsWhole) (hc0 : cond0_0 i)
    (x0 : Vec F S256x8192 .bf16) (x1 : Vec F S4096x512 .i8) (x2 : Vec F S64x512 .bf16) :
    out0_A_3 c i arg1 harg1 arg2 harg2 arg3 harg3 arg4 harg4 arg5 harg5 hc0 x0 x1 x2 = blockOut (xhat x0) x1 x2 := by
  have e := sout_A c i arg1 harg1 arg2 harg2 arg3 harg3 arg4 harg4 arg5 harg5 hc0 x0 x1 x2
  frame_open at e
  rw [View.read_writes_junk_eq_canon] at e
  frame_open
  simp only [readCov_ld, e]
  simp (disch := decide) only [View.read_writes_junk_eq_canon, View.canon_cons_unit_lit', View.readAt_eq_ld,
    Memref.IsWhole.read_unread]
  clear e
  unfold_payloads
  unfold blockOut
  simp only [accum, partAt]
  rfl

end Cert.KernelIdeal.Block

end
-- ==== Proof.Scalars.lean ====
/- The scalars in which both programs' results are stated: the signs of the Hadamard matrix, its scale, and the signed
   4-bit codes of a packed byte. -/
module

public import Idealize.ShloMosaic.Lib.Pointwise

@[expose] public section

noncomputable section

namespace Cert.Scalars

open Idealize.ShloMosaic

/-- The sign of the Hadamard matrix at row `j` and column `k`: minus one to the number of ones of `j AND k`. -/
def sgn (j k : BitVec 32) : EReal :=
  FloatOps.sitofp (F := Ideal) FTy.f32 (IntOp.subi 1#32 (IntOp.muli 2#32 (IntOp.andi (IntOp.ctpop (IntOp.andi j k)) 1#32)))

/-- The scale of the Hadamard matrix, `128 ^ (-1/2)` in binary32. -/
def scale : EReal := Ideal.ofBits FTy.f32 1035273459#32

/-- The low nibble of a byte as a signed number. -/
def lo (b : BitVec 8) : EReal := (((b.extractLsb' 0 4).toInt : ℝ) : EReal)

/-- The high nibble of a byte as a signed number. -/
def hi (b : BitVec 8) : EReal := (((b.extractLsb' 4 4).toInt : ℝ) : EReal)

/-- The scale is a finite number, not negative. -/
theorem scale_eq : ∃ c : ℝ, 0 ≤ c ∧ scale = (c : EReal) := by
  refine ⟨11863283 * (2 : ℝ) ^ (-27 : ℤ), by positivity, ?_⟩
  simp [scale, Ideal.ofBits, Ideal.ieee, -EReal.coe_mul]

/-- The scale comes out of a sum. -/
theorem sum_mul_scale {n : ℕ} (f : Fin n → EReal) : (∑ j, f j) * scale = ∑ j, f j * scale := by
  obtain ⟨c, hc, e⟩ := scale_eq
  rw [e]
  have key : ∀ s : Finset (Fin n), (∑ j ∈ s, f j) * (c : EReal) = ∑ j ∈ s, f j * (c : EReal) := by
    intro s
    induction s using Finset.induction_on with
    | empty => simp
    | insert a s ha ih =>
      rw [Finset.sum_insert ha, Finset.sum_insert ha,
        EReal.right_distrib_of_nonneg_of_ne_top (by exact_mod_cast hc) (EReal.coe_ne_top c), ih]
  exact key _

/-- Offsetting the low nibble by eight and back is reading it with its sign. -/
theorem lo_word (b : BitVec 8) :
    FloatOps.sitofp (F := Ideal) FTy.bf16 (IntOp.subi (IntOp.xori (IntOp.andi (BitVec.setWidth 32 b) 15#32) 8#32) 8#32) = lo b := by
  have h : ∀ b : BitVec 8, (IntOp.subi (IntOp.xori (IntOp.andi (BitVec.setWidth 32 b) 15#32) 8#32) 8#32).toInt
      = (b.extractLsb' 0 4).toInt := by decide +kernel
  show (((_ : ℤ) : ℝ) : EReal) = _
  rw [h]; rfl

/-- The same of the high nibble. -/
theorem hi_word (b : BitVec 8) :
    FloatOps.sitofp (F := Ideal) FTy.bf16 (IntOp.subi (IntOp.xori (IntOp.shrsi ArithUnit.host (BitVec.setWidth 32 b) 4#32) 8#32) 8#32) = hi b := by
  have h : ∀ b : BitVec 8, (IntOp.subi (IntOp.xori (IntOp.shrsi ArithUnit.host (BitVec.setWidth 32 b) 4#32) 8#32) 8#32).toInt
      = (b.extractLsb' 4 4).toInt := by decide +kernel
  show (((_ : ℤ) : ℝ) : EReal) = _
  rw [h]; rfl

/-- The bfloat16 with the pattern of 136 and the nibble exclusive-or'd into its last bits, less 136, is the nibble with its sign. -/
theorem biased (n : BitVec 4) :
    Ideal.ofBits FTy.bf16 (n.setWidth 16 ^^^ 17160#16) - Ideal.ofBits FTy.bf16 17160#16 = ((n.toInt : ℝ) : EReal) := by
  have h1 : ∀ n : BitVec 4, ((n.setWidth 16 ^^^ 17160#16).extractLsb' 15 1 == 1#1) = false ∧
      ((n.setWidth 16 ^^^ 17160#16).extractLsb' 7 8).toNat = 134 ∧
      (((n.setWidth 16 ^^^ 17160#16).extractLsb' 0 7).toNat : ℤ) = n.toInt + 8 := by decide +kernel
  have v : ∀ n : BitVec 4, Ideal.ofBits FTy.bf16 (n.setWidth 16 ^^^ 17160#16) = ((136 + (n.toInt : ℝ) : ℝ) : EReal) := by
    intro n
    obtain ⟨a, b, c⟩ := h1 n
    have c' : (((n.setWidth 16 ^^^ 17160#16).extractLsb' 0 7).toNat : ℝ) = (n.toInt : ℝ) + 8 := by exact_mod_cast c
    show Ideal.ieee 8 7 _ = _
    unfold Ideal.ieee
    dsimp only
    simp only [Nat.reduceAdd, a, b]
    clear c
    generalize (BitVec.extractLsb' 0 7 (BitVec.setWidth 16 n ^^^ 17160#16)).toNat = fr at c' ⊢
    have e : (136 + (n.toInt : ℝ) : ℝ) = 128 + (fr : ℝ) := by rw [c']; ring
    rw [e]
    norm_num
  have v0 := v 0#4
  have e0 : (0#4 : BitVec 4).setWidth 16 ^^^ 17160#16 = 17160#16 := by decide
  rw [e0] at v0
  rw [v n, v0, ← EReal.coe_sub]
  congr 1
  simp

end Cert.Scalars

end
-- ==== Proof.BlockValue.lean ====
/- What one grid point computes, read at an index. -/
module

public import proofs.«01_k».proof.Proof.BlockA
public import proofs.«01_k».proof.Proof.Scalars
public import Idealize.ShloMosaic.Lib.BitcastFour
public import Idealize.ShloMosaic.Lib.BitcastPair

@[expose] public section

set_option maxRecDepth 16384

noncomputable section

namespace Cert.KernelIdeal.Block

open Cert.KernelIdeal Cert.KernelIdeal.Gen Idealize.ShloMosaic Idealize.ShloMosaic.TcCoe Idealize.SL.Sem Cert.Scalars

/-- The place in a group of 128 at which column `c` of the kernel's Hadamard matrix stands in the reference's: the order
    in which the bytes' fields come out of the words. -/
def place (c : Fin 128) : Fin 128 :=
  ⟨32 * (c.val / 16 % 4) + 4 * (c.val / 2 % 8) + 2 * (c.val % 2) + c.val / 64, by omega⟩

/-- The kernel's word for the place of a column. -/
theorem place_word : ∀ c : Fin 128,
    IntOp.addi (IntOp.addi (IntOp.addi
        (IntOp.muli (32#32) (IntOp.andi (IntOp.shrsi ArithUnit.vector (BitVec.ofNat 32 ↑c) 4#32) 3#32))
        (IntOp.muli (4#32) (IntOp.andi (IntOp.shrsi ArithUnit.vector (BitVec.ofNat 32 ↑c) 1#32) 7#32)))
      (IntOp.muli (2#32) (IntOp.andi (BitVec.ofNat 32 ↑c) 1#32)))
      (IntOp.shrsi ArithUnit.vector (BitVec.ofNat 32 ↑c) 6#32) = BitVec.ofNat 32 (place c).val := by decide +kernel

/-- An entry of the kernel's matrix. -/
theorem matrix_apply (j c : Fin 128) : k0_pay2 (F := Ideal) (ix2 j c) = sgn (BitVec.ofNat 32 j) (BitVec.ofNat 32 (place c)) := by
  pointwise [k0_pay2]
  rw [place_word]
  rfl

/-- One rotated group at an index. -/
theorem rot_apply (x : Vec Ideal S256x128 .bf16) (r : Fin 256) (c : Fin 128) :
    rot x (ix2 r c) = (∑ j : Fin 128, (x (ix2 r j) : EReal) * sgn (BitVec.ofNat 32 j) (BitVec.ofNat 32 (place c))) * scale := by
  pointwise [rot]
  simp only [matrix_apply]
  rfl

/-- A 16-bit half of a masked and offset word is a nibble of the word, offset. -/
theorem half_word (V : BitVec 32) (h : Fin 2) : (IntOp.xori (IntOp.andi V 983055#32) 1124614920#32).extractLsb' (16 * h.val) 16
    = (V.extractLsb' (16 * h.val) 4).setWidth 16 ^^^ 17160#16 := by
  apply BitVec.eq_of_getLsbD_eq
  intro i hi
  simp only [IntOp.xori, IntOp.andi, BitVec.getLsbD_extractLsb', BitVec.getLsbD_xor, BitVec.getLsbD_and, BitVec.getLsbD_setWidth]
  match h with
  | 0 => interval_cases i <;> simp
  | 1 => interval_cases i <;> simp

/-- A nibble of a shifted word is the nibble further up. -/
theorem shifted_nibble (V : BitVec 32) (s o : ℕ) (h : o + s + 4 ≤ 32) : (V.sshiftRight s).extractLsb' o 4 = V.extractLsb' (o + s) 4 := by
  apply BitVec.eq_of_getLsbD_eq
  intro i hi
  simp only [BitVec.getLsbD_extractLsb', BitVec.getLsbD_sshiftRight]
  rw [show s + (o + i) = o + s + i by omega]
  have h1 : ¬ 32 ≤ o + i := by omega
  have h2 : o + s + i < 32 := by omega
  simp [h1, h2]

/-- A nibble of a word of four bytes is a nibble of one of the bytes. -/
theorem word_nibble (P : Vec Ideal S128x512 .i8) (w : Fin 32) (n : Fin 512) (o : ℕ) (ho : o < 8) (q : Fin 128) (u : ℕ) (hu : u = 0 ∨ u = 4)
    (hq : q.val = 4 * w.val + o / 2) (hou : u = 4 * (o % 2)) :
    (words P (ix2 w n)).extractLsb' (4 * o) 4 = (P (ix2 q n) : BitVec 8).extractLsb' u 4 := by
  apply BitVec.eq_of_getLsbD_eq
  intro i hi
  simp only [BitVec.getLsbD_extractLsb', hi, decide_true, Bool.true_and, ix2_eq_valueIdx]
  unfold words
  rw [bitcast_8_32_getLsbD_ix2 P _ w n (4 * o + i) (by omega) q (by omega)]
  congr 1
  omega

/-- The 16-bit halves of words at an index. -/
theorem halves_apply (V : IVec S32x512 32) (i : Fin 64) (n : Fin 512) (w : Fin 32) (hw : w.val = i.val / 2) :
    bitcast S64x512 16 V bitcasts_S32x512_w32_S64x512_w16 (ix2 i n) = (V (ix2 w n)).extractLsb' (16 * (i.val % 2)) 16 := by
  refine (bitcast_32_16 V bitcasts_S32x512_w32_S64x512_w16 (ix2 i n)).trans ?_
  show (V _).extractLsb' (16 * (i.val % 2)) 16 = _
  congr 2
  funext a
  match a with
  | ⟨0, _⟩ => exact Fin.ext ((Shape.Bitcasts.srcIdx_row _ _ _ _ ⟨0, Nat.zero_lt_two⟩ rfl).trans hw.symm)
  | ⟨1, _⟩ => exact Fin.ext (Shape.Bitcasts.srcIdx_other _ _ _ _ ⟨1, Nat.one_lt_two⟩ (by decide))

/-- A field at an index: the nibble at bit 0 of the half, with its sign, times the scale. -/
theorem field_apply (V : IVec S32x512 32) (a : Vec Ideal S1x512 .bf16) (i : Fin 64) (n : Fin 512) (w : Fin 32) (hw : w.val = i.val / 2) :
    field V a (ix2 i n) = ((((V (ix2 w n)).extractLsb' (16 * (i.val % 2)) 4).toInt : ℝ) : EReal) * a (ix2 0 n) := by
  pointwise [field]
  rw [halves_apply _ i n w hw]
  have e := half_word (V (ix2 w n)) ⟨i.val % 2, by omega⟩
  rw [← biased, ← e]
  rfl

/-- The nibble the field at shift `4 k` holds in its row `i`: nibble `k % 2` of byte row `4 (i / 2) + 2 (i % 2) + k / 2`. -/
theorem field_nibble (P : Vec Ideal S128x512 .i8) (i : Fin 64) (n : Fin 512) (w : Fin 32) (hw : w.val = i.val / 2) (k : ℕ) (hk : k < 4)
    (q : Fin 128) (hq : q.val = 4 * (i.val / 2) + 2 * (i.val % 2) + k / 2) :
    ((words P (ix2 w n)).sshiftRight (4 * k)).extractLsb' (16 * (i.val % 2)) 4 = (P (ix2 q n) : BitVec 8).extractLsb' (4 * (k % 2)) 4 := by
  rw [shifted_nibble _ _ _ (by omega), show 16 * (i.val % 2) + 4 * k = 4 * (4 * (i.val % 2) + k) by omega]
  exact word_nibble P w n _ (by omega) q _ (by omega) (by omega) (by omega)

/-- The first 128 rows of a tile are the low nibbles of the packed rows, in the matrix's order, times the first scale row. -/
theorem tile_lo (P : Vec Ideal S128x512 .i8) (a b : Vec Ideal S1x512 .bf16) (c : Fin 128) (c' : Fin 256) (hc : c'.val = c.val) (n : Fin 512) :
    tile P a b (ix2 c' n) = lo (P (ix2 (place c) n)) * a (ix2 0 n) := by
  rw [show c' = ⟨c.val, by omega⟩ from Fin.ext hc]
  pointwise [tile]
  have hv := c.isLt
  by_cases h : c.val < 64
  · rw [dif_pos h, field_apply _ _ _ _ ⟨c.val / 2, by omega⟩ rfl]
    have e := field_nibble P ⟨c.val, h⟩ n ⟨c.val / 2, by omega⟩ rfl 0 (by omega) (place c) (by simp only [place]; omega)
    rw [Nat.mul_zero, BitVec.sshiftRight_zero] at e
    rw [e]; rfl
  · rw [dif_neg h, dif_pos (by omega), field_apply _ _ _ _ ⟨(c.val - 64) / 2, by omega⟩ rfl]
    have e := field_nibble P ⟨c.val - 64, by omega⟩ n ⟨(c.val - 64) / 2, by omega⟩ rfl 2 (by omega) (place c) (by simp only [place]; omega)
    exact congrArg (fun v : BitVec 4 => ((v.toInt : ℝ) : EReal) * a (ix2 0 n)) e

/-- The last 128 rows are the high nibbles of the same packed rows, times the second scale row. -/
theorem tile_hi (P : Vec Ideal S128x512 .i8) (a b : Vec Ideal S1x512 .bf16) (c : Fin 128) (c' : Fin 256) (hc : c'.val = 128 + c.val)
    (n : Fin 512) : tile P a b (ix2 c' n) = hi (P (ix2 (place c) n)) * b (ix2 0 n) := by
  rw [show c' = ⟨128 + c.val, by omega⟩ from Fin.ext hc]
  pointwise [tile]
  have hv := c.isLt
  rw [dif_neg (by omega), dif_neg (by omega)]
  by_cases h : c.val < 64
  · rw [dif_pos (by omega), field_apply _ _ _ _ ⟨(128 + c.val - 64 - 64) / 2, by omega⟩ rfl]
    have e := field_nibble P ⟨128 + c.val - 64 - 64, by omega⟩ n ⟨(128 + c.val - 64 - 64) / 2, by omega⟩ rfl 1 (by omega) (place c)
      (by simp only [place]; omega)
    exact congrArg (fun v : BitVec 4 => ((v.toInt : ℝ) : EReal) * b (ix2 0 n)) e
  · rw [dif_neg (by omega), field_apply _ _ _ _ ⟨(128 + c.val - 64 - 64 - 64) / 2, by omega⟩ rfl]
    have e := field_nibble P ⟨128 + c.val - 64 - 64 - 64, by omega⟩ n ⟨(128 + c.val - 64 - 64 - 64) / 2, by omega⟩ rfl 3 (by omega) (place c)
      (by simp only [place]; omega)
    exact congrArg (fun v : BitVec 4 => ((v.toInt : ℝ) : EReal) * b (ix2 0 n)) e

/-- Product number `p` of the result's entry `(r, n)`. -/
def term (H : Vec Ideal S256x8192 .bf16) (W : Vec Ideal S4096x512 .i8) (S : Vec Ideal S64x512 .bf16) (r : Fin 256) (n : Fin 512)
    (p : Fin 32) : EReal :=
  (∑ c : Fin 128, H (ix2 r ⟨256 * p.val + c.val, by omega⟩)
      * (lo (W (ix2 ⟨128 * p.val + (place c).val, by omega⟩ n)) * S (ix2 ⟨p.val, by omega⟩ n)))
    + ∑ c : Fin 128, H (ix2 r ⟨256 * p.val + (128 + c.val), by omega⟩)
      * (hi (W (ix2 ⟨128 * p.val + (place c).val, by omega⟩ n)) * S (ix2 ⟨p.val + 32, by omega⟩ n))

/-- One product at an index. -/
theorem partAt_apply (H : Vec Ideal S256x8192 .bf16) (W : Vec Ideal S4096x512 .i8) (S : Vec Ideal S64x512 .bf16) (p : ℕ) (h : p < 32)
    (r : Fin 256) (n : Fin 512) : partAt H W S p h (ix2 r n) = term H W S r n ⟨p, h⟩ := by
  pointwise [partAt, part]
  rw [Fin.sum_univ_add (a := 128) (b := 128)]
  unfold term
  congr 1
  · refine Finset.sum_congr rfl fun c _ => ?_
    rw [tile_lo _ _ _ c _ rfl]
    pointwise
    rfl
  · refine Finset.sum_congr rfl fun c _ => ?_
    rw [tile_hi _ _ _ c _ rfl]
    pointwise
    rfl

/-- The sum of the products at an index. -/
theorem accum_apply (H : Vec Ideal S256x8192 .bf16) (W : Vec Ideal S4096x512 .i8) (S : Vec Ideal S64x512 .bf16) (r : Fin 256) (n : Fin 512)
    (p : ℕ) (h : p < 32) : accum H W S p h (ix2 r n) = ∑ k : Fin (p + 1), term H W S r n ⟨k.val, by omega⟩ := by
  induction p with
  | zero => rw [accum, partAt_apply]; simp
  | succ p ih =>
    rw [accum, addf_apply, ih (by omega), partAt_apply]
    exact (Fin.sum_univ_castSucc (n := p + 1) (fun k : Fin (p + 1 + 1) => term H W S r n ⟨k.val, by omega⟩)).symm

/-- The block a point stores, at an index. -/
theorem blockOut_apply (H : Vec Ideal S256x8192 .bf16) (W : Vec Ideal S4096x512 .i8) (S : Vec Ideal S64x512 .bf16) (r : Fin 256)
    (n : Fin 512) : blockOut H W S (ix2 r n) = ∑ p : Fin 32, term H W S r n p := by
  pointwise [blockOut]
  exact accum_apply H W S r n 31 (by omega)

end Cert.KernelIdeal.Block

end
-- ==== Proof.Array.lean ====
/- What the kernel's result array holds: each column block what its grid point stores, over the launched arguments. -/
module

public import proofs.«01_k».proof.Proof.BlockValue

@[expose] public section

set_option maxRecDepth 16384

noncomputable section

namespace Cert.KernelIdeal.Block

open Cert.KernelIdeal Cert.KernelIdeal.Gen Idealize.ShloMosaic Idealize.ShloMosaic.TcCoe Idealize.SL.Sem Cert.Scalars

variable (m : (ℓ : Loc nD τ sig) → Buf (Elt Ideal) ℓ)

/-- The blocks of the three inputs: the whole of the first at every point, column block `t` of the others at point `t`. -/
theorem idx : ∀ t : Fin cfg0.N, win0_0.index t = ![0, 0] ∧ win0_1.index t = ![0, t.val] ∧ win0_2.index t = ![0, t.val] :=
  (by decide +kernel : ∀ t : Fin grid0.N, win0_0.index t = ![0, 0] ∧ win0_1.index t = ![0, t.val] ∧ win0_2.index t = ![0, t.val])

/-- The activations at a point: row `r` of the first argument. -/
theorem read0 (c : Dev nD) (t : Fin cfg0.N) (r : Fin 256) (q : Fin 8192) :
    iblk m c 0 t (ix2 r q) = m ((c.tc : Thread nD τ).loc main_arg0) (ix3 r 0 q) := by
  blk_ext! [iblk, V, idx t]

/-- The packed weights at a point. -/
theorem read1 (c : Dev nD) (t : Fin cfg0.N) (k : Fin 4096) (n : Fin 512) (n' : Fin 45056) (hn : n'.val = 512 * t.val + n.val) :
    iblk m c 1 t (ix2 k n) = m ((c.tc : Thread nD τ).loc main_arg1) (ix2 k n') := by
  blk_ext! [iblk, V, idx t]

/-- The scale rows at a point. -/
theorem read2 (c : Dev nD) (t : Fin cfg0.N) (k : Fin 64) (n : Fin 512) (n' : Fin 45056) (hn : n'.val = 512 * t.val + n.val) :
    iblk m c 2 t (ix2 k n) = m ((c.tc : Thread nD τ).loc main_arg2) (ix2 k n') := by
  blk_ext! [iblk, V, idx t]

/-- The first input's block is the same at every point. -/
theorem read0_const (c : Dev nD) (t t' : Fin cfg0.N) : iblk m c 0 t = iblk m c 0 t' := by
  funext j
  idx_vars j
  exact (read0 m c t _ _).trans (read0 m c t' _ _).symm

/-- After point `n`: the block of that point, and the scratch the first point filled. -/
theorem outs_eq (c : Dev nD) : ∀ (n : ℕ) (hn : n < cfg0.N), outsAt0 m c n hn =
    (blockOut (xhat (iblk m c 0 ⟨n, hn⟩)) (iblk m c 1 ⟨n, hn⟩) (iblk m c 2 ⟨n, hn⟩), xhat (iblk m c 0 ⟨n, hn⟩))
  | 0, hn => by
    rw [outsAt0_A m c ⟨0, hn⟩ (Nat.zero_mod _), out_A, sout_A]
  | n + 1, hn => by
    have hN := lt_of_lt_of_eq hn (show cfg0.N = 88 from N_0)
    have e := outsAt0_B m c ⟨n + 1, hn⟩ (by show ¬ (n + 1) % 88 = 0; omega)
    have ih := outs_eq c n (by omega)
    refine e.trans ?_
    rw [out_B]
    unfold sout0_B_0
    show (blockOut (outsAt0 m c n _).2 _ _, (outsAt0 m c n _).2) = _
    rw [ih, read0_const m c ⟨n, by omega⟩ ⟨n + 1, hn⟩]

/-- The result array at `(r, n)`. -/
theorem array_apply (c : Dev nD) (r : Fin 256) (n : Fin 45056) (t : Fin cfg0.N) (ht : t.val = n.val / 512) :
    Value.G3 m c (ix2 r n) = blockOut (xhat (iblk m c 0 t)) (iblk m c 1 t) (iblk m c 2 t) (ix2 r ⟨n.val % 512, by omega⟩) := by
  have hp : Value.pt3Of (ix2 r n) = t.val := by
    show 88 * (r.val / 256 - 0) + 1 * (n.val / 512 - 0) = t.val
    omega
  have hl : Value.loc3Of (ix2 r n) = ix2 r ⟨n.val % 512, by omega⟩ := by
    funext a
    match a with
    | ⟨0, _⟩ => exact Fin.ext (Nat.mod_eq_of_lt r.isLt)
    | ⟨1, _⟩ => rfl
  unfold Value.G3
  rw [dif_pos (hp ▸ t.isLt), hl]
  have e := (Value.outsAt0_sweep m c t.val t.isLt).symm.trans (outs_eq m c t.val t.isLt)
  rw [Value.fold0_congr m c (Value.pt3Of (ix2 r n)) _ t.val (by have := t.isLt; omega) hp, e]

end Cert.KernelIdeal.Block

end
-- ==== Proof.Reference.lean ====
/- What the reference computes, read at an index. -/
module

public import proofs.«01_k».proof.Proof.Gen.ReferenceIdeal.Run
public import proofs.«01_k».proof.Proof.Scalars

@[expose] public section

set_option maxRecDepth 16384

noncomputable section

namespace Cert.ReferenceIdeal.Closed

open Cert.ReferenceIdeal Cert.ReferenceIdeal.Gen Idealize.ShloMosaic Idealize.ShloMosaic.TcCoe Idealize.SL.Sem Cert.Scalars

/-- The reference's Hadamard matrix, scaled. -/
def hadamard : FVec Ideal S128x128 .f32 :=
  mulf (sitofp .f32 (subi (broadcastInDim S128x128 ![] bcast_S_S128x128 (constantI S_ 32 1#32)) (muli (broadcastInDim S128x128 ![] bcast_S_S128x128 (constantI S_ 32 2#32)) (andi (ctpop (andi (broadcastInDim S128x128 ![0, 1] bcast_S128x1_S128x128_0_1 (broadcastInDim S128x1 ![0] bcast_S128_S128x1_0 (iotaInDim S128 32 0))) (broadcastInDim S128x128 ![0, 1] bcast_S1x128_S128x128_0_1 (broadcastInDim S1x128 ![1] bcast_S128_S1x128_1 (iotaInDim S128 32 0))))) (broadcastInDim S128x128 ![] bcast_S_S128x128 (constantI S_ 32 1#32)))))) (broadcastInDim S128x128 ![] bcast_S_S128x128 (constant S_ .f32 0x3DB504F3#32))

/-- The reference's rotated activations. -/
def rotated (X : Vec Ideal S256x1x8192 .bf16) : FVec Ideal S256x1x8192 .bf16 :=
  truncf .bf16 (shapeCast S256x1x8192 (Host.dotGeneral dot_S256x1x64x128_S128x128_S256x1x64x128_3_0_012_1_n_n none (shapeCast S256x1x64x128 (extf .f32 X bitsLt_bf16_f32) shapeCasts_S256x1x8192_S256x1x64x128) hadamard) shapeCasts_S256x1x64x128_S256x1x8192) bitsLt_bf16_f32

/-- The reference's weights from the low nibbles. -/
def weightsLo (W : Vec Ideal S4096x45056 .i8) (S : Vec Ideal S64x45056 .bf16) : FVec Ideal S4096x45056 .bf16 :=
  shapeCast S4096x45056 (mulf (shapeCast S32x128x45056 (sitofp .bf16 (subi (xori (andi (extui 32 W natLt_8_32) (broadcastInDim S4096x45056 ![] bcast_S_S4096x45056 (constantI S_ 32 15#32))) (broadcastInDim S4096x45056 ![] bcast_S_S4096x45056 (constantI S_ 32 8#32))) (broadcastInDim S4096x45056 ![] bcast_S_S4096x45056 (constantI S_ 32 8#32)))) shapeCasts_S4096x45056_S32x128x45056) (broadcastInDim S32x128x45056 ![0, 1, 2] bcast_S32x1x45056_S32x128x45056_0_1_2 (broadcastInDim S32x1x45056 ![0, 2] bcast_S32x45056_S32x1x45056_0_2 (extractStridedSlice S32x45056 ![0, 0] S slices_S64x45056_S32x45056_0_0)))) shapeCasts_S32x128x45056_S4096x45056

/-- The reference's weights from the high nibbles. -/
def weightsHi (W : Vec Ideal S4096x45056 .i8) (S : Vec Ideal S64x45056 .bf16) : FVec Ideal S4096x45056 .bf16 :=
  shapeCast S4096x45056 (mulf (shapeCast S32x128x45056 (sitofp .bf16 (subi (xori (Host.shrsi (extui 32 W natLt_8_32) (broadcastInDim S4096x45056 ![] bcast_S_S4096x45056 (constantI S_ 32 4#32))) (broadcastInDim S4096x45056 ![] bcast_S_S4096x45056 (constantI S_ 32 8#32))) (broadcastInDim S4096x45056 ![] bcast_S_S4096x45056 (constantI S_ 32 8#32)))) shapeCasts_S4096x45056_S32x128x45056) (broadcastInDim S32x128x45056 ![0, 1, 2] bcast_S32x1x45056_S32x128x45056_0_1_2 (broadcastInDim S32x1x45056 ![0, 2] bcast_S32x45056_S32x1x45056_0_2 (extractStridedSlice S32x45056 ![32, 0] S slices_S64x45056_S32x45056_32_0)))) shapeCasts_S32x128x45056_S4096x45056

/-- The reference's result. -/
def result (X : Vec Ideal S256x1x8192 .bf16) (W : Vec Ideal S4096x45056 .i8) (S : Vec Ideal S64x45056 .bf16) : FVec Ideal S256x45056 .bf16 :=
  shapeCast S256x45056 (truncf .bf16 (addf (Host.dotGeneral dot_S256x1x4096_S4096x45056_S256x1x45056_2_0_01_1_n_n none (extractStridedSlice S256x1x4096 ![0, 0, 0] (rotated X) slices_S256x1x8192_S256x1x4096_0_0_0) (weightsLo W S)) (Host.dotGeneral dot_S256x1x4096_S4096x45056_S256x1x45056_2_0_01_1_n_n none (extractStridedSlice S256x1x4096 ![0, 0, 4096] (rotated X) slices_S256x1x8192_S256x1x4096_0_0_4096) (weightsHi W S))) bitsLt_bf16_f32) shapeCasts_S256x1x45056_S256x45056

/-- An entry of the matrix: the sign times the scale. -/
theorem hadamard_apply (j k : Fin 128) : hadamard (ix2 j k) = sgn (BitVec.ofNat 32 j) (BitVec.ofNat 32 k) * scale := by
  pointwise [hadamard]
  rfl

/-- The rotated activation at row `r` and column `q`, over the column's group of 128. -/
def rotAt (X : Vec Ideal S256x1x8192 .bf16) (r : Fin 256) (q : Fin 8192) : EReal :=
  ∑ j : Fin 128, (X (ix3 r 0 ⟨q.val / 128 * 128 + j.val, by omega⟩) : EReal)
    * (sgn (BitVec.ofNat 32 j) (BitVec.ofNat 32 (q.val % 128)) * scale)

theorem rotated_apply (X : Vec Ideal S256x1x8192 .bf16) (r : Fin 256) (q : Fin 8192) : rotated X (ix3 r 0 q) = rotAt X r q := by
  pointwise [rotated]
  simp only [hadamard_apply]
  rfl

/-- A weight from a low nibble: the code times its group's scale. -/
theorem weightsLo_apply (W : Vec Ideal S4096x45056 .i8) (S : Vec Ideal S64x45056 .bf16) (q : Fin 4096) (n : Fin 45056) :
    weightsLo W S (ix2 q n) = lo (W (ix2 q n)) * (S (ix2 ⟨q.val / 128, by omega⟩ n) : EReal) := by
  pointwise [weightsLo]
  rw [lo_word]

/-- A weight from a high nibble. -/
theorem weightsHi_apply (W : Vec Ideal S4096x45056 .i8) (S : Vec Ideal S64x45056 .bf16) (q : Fin 4096) (n : Fin 45056) :
    weightsHi W S (ix2 q n) = hi (W (ix2 q n)) * (S (ix2 ⟨32 + q.val / 128, by omega⟩ n) : EReal) := by
  pointwise [weightsHi]
  rw [hi_word]

/-- The product of the rotated activations with the weights, at row `r` and column `n`: the lower half of the columns
    meets the low nibbles, the upper half the high ones. -/
def resultAt (X : Vec Ideal S256x1x8192 .bf16) (W : Vec Ideal S4096x45056 .i8) (S : Vec Ideal S64x45056 .bf16)
    (r : Fin 256) (n : Fin 45056) : EReal :=
  ∑ q : Fin 4096, rotAt X r ⟨q.val, by omega⟩ * (lo (W (ix2 q n)) * (S (ix2 ⟨q.val / 128, by omega⟩ n) : EReal))
    + ∑ q : Fin 4096, rotAt X r ⟨4096 + q.val, by omega⟩ * (hi (W (ix2 q n)) * (S (ix2 ⟨32 + q.val / 128, by omega⟩ n) : EReal))

/-- The reference's result at an index. -/
theorem result_apply (X : Vec Ideal S256x1x8192 .bf16) (W : Vec Ideal S4096x45056 .i8) (S : Vec Ideal S64x45056 .bf16)
    (r : Fin 256) (n : Fin 45056) : result X W S (ix2 r n) = resultAt X W S r n := by
  pointwise [result]
  simp only [rotated_apply, weightsLo_apply, weightsHi_apply]
  rfl

end Cert.ReferenceIdeal.Closed

end
-- ==== Proof.Equation.lean ====
/- The kernel's entry and the reference's are the same number: the kernel sums over 32 tiles of 128 packed rows, in the
   order of the bytes' fields, what the reference sums over the 4096 packed rows. -/
module

public import proofs.«01_k».proof.Proof.Array
public import proofs.«01_k».proof.Proof.Reference
public import Idealize.ShloMosaic.Lib.Pipeline.ValueKit.Acc

@[expose] public section

set_option maxRecDepth 16384

noncomputable section

namespace Cert.Equation

open Cert.KernelIdeal Cert.KernelIdeal.Gen Cert.KernelIdeal.Block Idealize.ShloMosaic Idealize.ShloMosaic.TcCoe Idealize.SL.Sem Cert.Scalars
open Cert.ReferenceIdeal.Closed (rotAt resultAt)

/-- The order of the fields is a permutation of a group. -/
theorem place_bijective : Function.Bijective place :=
  Finite.injective_iff_bijective.mp (by decide +kernel : ∀ a b, place a = place b → a = b)

/-- The sum over one group does not depend on the order. -/
theorem sum_place (f : Fin 128 → EReal) : ∑ c, f (place c) = ∑ k, f k := place_bijective.sum_comp f

/-- The scratch at an index: one entry of the group's rotation. -/
theorem xhat_apply (X : Vec Ideal S256x8192 .bf16) (r : Fin 256) (q : Fin 8192) : xhat X (ix2 r q) =
    (∑ j : Fin 128, (X (ix2 r ⟨128 * grp (q.val / 128) + j.val, by have := grp_lt q.isLt; omega⟩) : EReal)
      * sgn (BitVec.ofNat 32 j) (BitVec.ofNat 32 (place ⟨q.val % 128, Nat.mod_lt _ (by decide)⟩))) * scale := by
  unfold xhat
  refine (rot_apply _ _ _).trans ?_
  pointwise

/-- A sum over the packed rows, taken by blocks of 128 in the order of the fields. -/
theorem sum_blocks (f : Fin 4096 → EReal) :
    ∑ p : Fin 32, ∑ k : Fin 128, f ⟨128 * p.val + (place k).val, by omega⟩ = ∑ q, f q := by
  have e := Fin.sum_mul_add_fin (L := 4096) 32 128 f (by decide)
  rw [← e]
  refine Finset.sum_congr rfl fun p _ => ?_
  rw [sum_place fun k => f ⟨128 * p.val + k.val, by omega⟩]
  refine Finset.sum_congr rfl fun k _ => ?_
  congr 2
  omega

/-- The scratch at column `c` of block `d` is the reference's rotated activation at the group's place of that column. -/
theorem xhat_rotAt (X : Vec Ideal S256x8192 .bf16) (A : Vec Ideal S256x1x8192 .bf16) (hX : ∀ (r : Fin 256) (q : Fin 8192), X (ix2 r q) = A (ix3 r 0 q))
    (r : Fin 256) (c : Fin 128) (d : ℕ) (q q' : Fin 8192) (hq : q.val = 128 * d + c.val) (hq' : q'.val = 128 * grp d + (place c).val) :
    xhat X (ix2 r q) = rotAt A r q' := by
  rw [xhat_apply, sum_mul_scale]
  unfold rotAt
  refine Finset.sum_congr rfl fun j _ => ?_
  have e1 : q.val / 128 = d := by omega
  have e2 : (⟨q.val % 128, Nat.mod_lt _ (by decide)⟩ : Fin 128) = c := Fin.ext (by show q.val % 128 = c.val; omega)
  have e3 : q'.val % 128 = (place c).val := by omega
  rw [mul_assoc, hX, e2, e3]
  congr 3
  apply Fin.ext
  show 128 * grp (q.val / 128) + j.val = q'.val / 128 * 128 + j.val
  rw [e1]
  omega

/-- A point's block at `(r, k)` is the reference's entry at the column `n` the point's blocks stand at. -/
theorem block_eq (X : Vec Ideal S256x8192 .bf16) (P : Vec Ideal S4096x512 .i8) (T : Vec Ideal S64x512 .bf16)
    (A : Vec Ideal S256x1x8192 .bf16) (W : Vec Ideal S4096x45056 .i8) (S : Vec Ideal S64x45056 .bf16) (k : Fin 512) (n : Fin 45056)
    (hX : ∀ (r : Fin 256) (q : Fin 8192), X (ix2 r q) = A (ix3 r 0 q)) (hP : ∀ q : Fin 4096, P (ix2 q k) = W (ix2 q n))
    (hT : ∀ g : Fin 64, T (ix2 g k) = S (ix2 g n)) (r : Fin 256) :
    blockOut (xhat X) P T (ix2 r k) = resultAt A W S r n := by
  rw [blockOut_apply]
  unfold term
  rw [Finset.sum_add_distrib]
  unfold resultAt
  rw [← sum_blocks, ← sum_blocks]
  congr 1
  · refine Finset.sum_congr rfl fun p _ => Finset.sum_congr rfl fun c _ => ?_
    have hc := (place c).isLt
    rw [xhat_rotAt X A hX r c (2 * p.val) _ ⟨128 * p.val + (place c).val, by omega⟩ (by show 256 * p.val + c.val = _; omega)
      (by show 128 * p.val + (place c).val = _; unfold grp; omega), hP, hT]
    have e : (⟨p.val, by omega⟩ : Fin 64) = ⟨(128 * p.val + (place c).val) / 128, by omega⟩ := Fin.ext (by show p.val = _ / 128; omega)
    rw [e]
  · refine Finset.sum_congr rfl fun p _ => Finset.sum_congr rfl fun c _ => ?_
    have hc := (place c).isLt
    rw [xhat_rotAt X A hX r c (2 * p.val + 1) _ ⟨4096 + (128 * p.val + (place c).val), by omega⟩
      (by show 256 * p.val + (128 + c.val) = _; omega)
      (by show 4096 + (128 * p.val + (place c).val) = _; unfold grp; omega), hP, hT]
    have e : (⟨p.val + 32, by omega⟩ : Fin 64) = ⟨32 + (128 * p.val + (place c).val) / 128, by omega⟩ :=
      Fin.ext (by show p.val + 32 = 32 + _ / 128; omega)
    rw [e]

/-- THE EQUATION: the result array at `(r, n)` is the reference's entry. -/
theorem array_eq (m : (ℓ : Loc nD τ sig) → Buf (Elt Ideal) ℓ) (c : Dev nD) (r : Fin 256) (n : Fin 45056) :
    Value.G3 m c (ix2 r n) = resultAt (m ((c.tc : Thread nD τ).loc main_arg0)) (m ((c.tc : Thread nD τ).loc main_arg1))
      (m ((c.tc : Thread nD τ).loc main_arg2)) r n := by
  have ht : n.val / 512 < cfg0.N := lt_of_lt_of_eq (by omega) N_0.symm
  have hn : n.val = 512 * (n.val / 512) + n.val % 512 := by omega
  rw [array_apply m c r n ⟨n.val / 512, ht⟩ rfl]
  exact block_eq _ _ _ _ _ _ _ n (read0 m c ⟨n.val / 512, ht⟩) (fun q => read1 m c ⟨n.val / 512, ht⟩ q _ n hn)
    (fun g => read2 m c ⟨n.val / 512, ht⟩ g _ n hn) r

end Cert.Equation

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem

/-- The reference runs and its result array is `result` of its arguments, which it leaves unchanged. -/
theorem reference_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v54)
          = Cert.ReferenceIdeal.Closed.result (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  Cert.ReferenceIdeal.Value.run (F := Ideal) m g

/-- The reference terminates with its arguments unchanged and every counter at zero: it declares no semaphore. -/
theorem frame_reference : Cert.quiescent_ReferenceIdeal (hReferenceIdeal := Cert.ReferenceIdeal.Gen.facts) := by
  intro m g _
  exact (θ_run (Cert.ReferenceIdeal.defs (F := Ideal)) _ _).mono
    (fun r h => ⟨fun c => (h c).2, Idealize.ShloMosaic.sem_eq_zero_of_no_sems (by decide) r.2⟩) (reference_run m g)

/-- The two programs end with equal results from equal arguments. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => Cert.KernelIdeal.Value.G3 m c, Cert.KernelIdeal.Value.run (F := Ideal) m g, ?_⟩
  refine (θ_run (Cert.ReferenceIdeal.defs (F := Ideal)) _ _).mono (fun r h c => ⟨(h c).1.trans ?_, (h c).2⟩) (reference_run m' g')
  funext j
  idx_vars j
  refine (Cert.ReferenceIdeal.Closed.result_apply _ _ _ _ _).trans ?_
  refine Eq.trans ?_ (Cert.Equation.array_eq m c _ _).symm
  rw [(hagree c).1, (hagree c).2.1, (hagree c).2.2]

theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, frame_reference, trivial, algebraic⟩

end Cert.Proof

end
